-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v40)) (v3 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1500000x256 : Shape := ⟨2, ![1500000, 256]⟩
abbrev S1500000x8 : Shape := ⟨2, ![1500000, 8]⟩
abbrev S1500000 : Shape := ⟨1, ![1500000]⟩
abbrev S262144 : Shape := ⟨1, ![262144]⟩
abbrev S8192x128 : Shape := ⟨2, ![8192, 128]⟩
abbrev S8192x256 : Shape := ⟨2, ![8192, 256]⟩
abbrev S262144x256 : Shape := ⟨2, ![262144, 256]⟩
abbrev S8192x1x256 : Shape := ⟨3, ![8192, 1, 256]⟩
abbrev S8192x128x256 : Shape := ⟨3, ![8192, 128, 256]⟩
abbrev S1048576x256 : Shape := ⟨2, ![1048576, 256]⟩
abbrev S1048576 : Shape := ⟨1, ![1048576]⟩
abbrev S_ : Shape := ⟨0, ![]⟩
abbrev S1048576x1 : Shape := ⟨2, ![1048576, 1]⟩
abbrev S262144x1 : Shape := ⟨2, ![262144, 1]⟩
abbrev S262144x8 : Shape := ⟨2, ![262144, 8]⟩
abbrev S8x262144 : Shape := ⟨2, ![8, 262144]⟩
abbrev S1x262144 : Shape := ⟨2, ![1, 262144]⟩
abbrev S512x256 : Shape := ⟨2, ![512, 256]⟩
abbrev S8x512 : Shape := ⟨2, ![8, 512]⟩
abbrev S1x512 : Shape := ⟨2, ![1, 512]⟩
abbrev S256x512 : Shape := ⟨2, ![256, 512]⟩
abbrev S512 : Shape := ⟨1, ![512]⟩
abbrev S32x512 : Shape := ⟨2, ![32, 512]⟩

abbrev nBuf : Space → Nat
  | .hbm => 62
  | .vmem => 20
  | .smem => 0
  | _ => 0

abbrev bufTy : (tb : Table) → Fin (tcTables nBuf tb) → BufTy
  | .hbm, ⟨0, _⟩ => ⟨S1500000x256, .i8⟩
  | .hbm, ⟨1, _⟩ => ⟨S1500000x8, .f32⟩
  | .hbm, ⟨2, _⟩ => ⟨S1500000x8, .f32⟩
  | .hbm, ⟨3, _⟩ => ⟨S1500000, .f32⟩
  | .hbm, ⟨4, _⟩ => ⟨S262144, .i32⟩
  | .hbm, ⟨5, _⟩ => ⟨S8192x128, .i32⟩
  | .hbm, ⟨6, _⟩ => ⟨S8192x256, .f32⟩
  | .hbm, ⟨7, _⟩ => ⟨S262144x256, .i32⟩
  | .hbm, ⟨8, _⟩ => ⟨S8192x1x256, .f32⟩
  | .hbm, ⟨9, _⟩ => ⟨S8192x128x256, .f32⟩
  | .hbm, ⟨10, _⟩ => ⟨S1048576x256, .f32⟩
  | .hbm, ⟨11, _⟩ => ⟨S1048576, .i32⟩
  | .hbm, ⟨12, _⟩ => ⟨S_, .f32⟩
  | .hbm, ⟨13, _⟩ => ⟨S262144x256, .f32⟩
  | .hbm, ⟨14, _⟩ => ⟨S1048576x1, .i32⟩
  | .hbm, ⟨15, _⟩ => ⟨S262144x256, .f32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S262144x256, .i8⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x8, .f32⟩
  | .hbm, ⟨34, _⟩ => ⟨S8x262144, .f32⟩
  | .hbm, ⟨35, _⟩ => ⟨S_, .i32⟩
  | .hbm, ⟨36, _⟩ => ⟨S262144, .i32⟩
  | .hbm, ⟨37, _⟩ => ⟨S262144, .i1⟩
  | .hbm, ⟨38, _⟩ => ⟨S_, .i32⟩
  | .hbm, ⟨39, _⟩ => ⟨S262144, .i32⟩
  | .hbm, ⟨40, _⟩ => ⟨S262144, .i32⟩
  | .hbm, ⟨41, _⟩ => ⟨S262144, .i32⟩
  | .hbm, ⟨42, _⟩ => ⟨S262144x1, .i32⟩
  | .hbm, ⟨43, _⟩ => ⟨S262144x8, .f32⟩
  | .hbm, ⟨44, _⟩ => ⟨S8x262144, .f32⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S_, .i32⟩
  | .hbm, ⟨49, _⟩ => ⟨S262144, .i32⟩
  | .hbm, ⟨50, _⟩ => ⟨S262144, .i32⟩
  | .hbm, ⟨51, _⟩ => ⟨S262144, .i32⟩
  | .hbm, ⟨52, _⟩ => ⟨S262144x1, .i32⟩
  | .hbm, ⟨53, _⟩ => ⟨S262144, .f32⟩
  | .hbm, ⟨54, _⟩ => ⟨S1x262144, .f32⟩
  | .hbm, ⟨55, _⟩ => ⟨S262144x256, .i8⟩
  | .hbm, ⟨56, _⟩ => ⟨S8x262144, .f32⟩
  | .hbm, ⟨57, _⟩ => ⟨S8x262144, .f32⟩
  | .hbm, ⟨58, _⟩ => ⟨S1x262144, .f32⟩
  | .hbm, ⟨59, _⟩ => ⟨S262144x8, .f32⟩
  | .hbm, ⟨60, _⟩ => ⟨S262144x8, .f32⟩
  | .hbm, ⟨61, _⟩ => ⟨S262144, .f32⟩
  | .local _ .vmem, ⟨0, _⟩ => ⟨S512x256, .f32⟩
  | .local _ .vmem, ⟨1, _⟩ => ⟨S512x256, .f32⟩
  | .local _ .vmem, ⟨2, _⟩ => ⟨S512x256, .i8⟩
  | .local _ .vmem, ⟨3, _⟩ => ⟨S512x256, .i8⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S512x256, .i32⟩
  | .local _ .vmem, ⟨11, _⟩ => ⟨S512x256, .i32⟩
  | .local _ .vmem, ⟨12, _⟩ => ⟨S512x256, .i8⟩
  | .local _ .vmem, ⟨13, _⟩ => ⟨S512x256, .i8⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S1x512, .f32⟩
  | .local _ .vmem, ⟨19, _⟩ => ⟨S1x512, .f32⟩
  | _, _ => ⟨S1500000x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev main_v38_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1500000x256 : Shape := ⟨2, ![1500000, 256]⟩
abbrev S1500000x8 : Shape := ⟨2, ![1500000, 8]⟩
abbrev S1500000 : Shape := ⟨1, ![1500000]⟩
abbrev S262144 : Shape := ⟨1, ![262144]⟩
abbrev S8192x128 : Shape := ⟨2, ![8192, 128]⟩
abbrev S8192x256 : Shape := ⟨2, ![8192, 256]⟩
abbrev S262144x256 : Shape := ⟨2, ![262144, 256]⟩
abbrev S8192x1x256 : Shape := ⟨3, ![8192, 1, 256]⟩
abbrev S8192x128x256 : Shape := ⟨3, ![8192, 128, 256]⟩
abbrev S1048576x256 : Shape := ⟨2, ![1048576, 256]⟩
abbrev S1048576 : Shape := ⟨1, ![1048576]⟩
abbrev S_ : Shape := ⟨0, ![]⟩
abbrev S1048576x1 : Shape := ⟨2, ![1048576, 1]⟩
abbrev S262144x1 : Shape := ⟨2, ![262144, 1]⟩
abbrev S262144x8x32 : Shape := ⟨3, ![262144, 8, 32]⟩
abbrev S262144x8 : Shape := ⟨2, ![262144, 8]⟩
abbrev S262144x8x1 : Shape := ⟨3, ![262144, 8, 1]⟩
abbrev S262144x1x1 : Shape := ⟨3, ![262144, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S1500000x256, .i8⟩
  | .hbm, ⟨1, _⟩ => ⟨S1500000x8, .f32⟩
  | .hbm, ⟨2, _⟩ => ⟨S1500000x8, .f32⟩
  | .hbm, ⟨3, _⟩ => ⟨S1500000, .f32⟩
  | .hbm, ⟨4, _⟩ => ⟨S262144, .i32⟩
  | .hbm, ⟨5, _⟩ => ⟨S8192x128, .i32⟩
  | .hbm, ⟨6, _⟩ => ⟨S8192x256, .f32⟩
  | .hbm, ⟨7, _⟩ => ⟨S262144x256, .i32⟩
  | .hbm, ⟨8, _⟩ => ⟨S8192x1x256, .f32⟩
  | .hbm, ⟨9, _⟩ => ⟨S8192x128x256, .f32⟩
  | .hbm, ⟨10, _⟩ => ⟨S1048576x256, .f32⟩
  | .hbm, ⟨11, _⟩ => ⟨S1048576, .i32⟩
  | .hbm, ⟨12, _⟩ => ⟨S_, .f32⟩
  | .hbm, ⟨13, _⟩ => ⟨S262144x256, .f32⟩
  | .hbm, ⟨14, _⟩ => ⟨S1048576x1, .i32⟩
  | .hbm, ⟨15, _⟩ => ⟨S262144x256, .f32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S262144x256, .i8⟩
  | .hbm, ⟨25, _⟩ => ⟨S262144x8x32, .i8⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S262144x8, .f32⟩
  | .hbm, ⟨35, _⟩ => ⟨S_, .i32⟩
  | .hbm, ⟨36, _⟩ => ⟨S262144, .i32⟩
  | .hbm, ⟨37, _⟩ => ⟨S262144, .i1⟩
  | .hbm, ⟨38, _⟩ => ⟨S_, .i32⟩
  | .hbm, ⟨39, _⟩ => ⟨S262144, .i32⟩
  | .hbm, ⟨40, _⟩ => ⟨S262144, .i32⟩
  | .hbm, ⟨41, _⟩ => ⟨S262144, .i32⟩
  | .hbm, ⟨42, _⟩ => ⟨S262144x1, .i32⟩
  | .hbm, ⟨43, _⟩ => ⟨S262144x8, .f32⟩
  | .hbm, ⟨44, _⟩ => ⟨S_, .i32⟩
  | .hbm, ⟨45, _⟩ => ⟨S262144, .i32⟩
  | .hbm, ⟨46, _⟩ => ⟨S262144, .i1⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S262144, .i32⟩
  | .hbm, ⟨51, _⟩ => ⟨S262144x1, .i32⟩
  | .hbm, ⟨52, _⟩ => ⟨S262144, .f32⟩
  | .hbm, ⟨53, _⟩ => ⟨S262144x8x32, .i32⟩
  | .hbm, ⟨54, _⟩ => ⟨S262144x8x32, .f32⟩
  | .hbm, ⟨55, _⟩ => ⟨S262144x8x1, .f32⟩
  | .hbm, ⟨56, _⟩ => ⟨S262144x8x32, .f32⟩
  | .hbm, ⟨57, _⟩ => ⟨S262144x8x32, .f32⟩
  | .hbm, ⟨58, _⟩ => ⟨S262144x8x1, .f32⟩
  | .hbm, ⟨59, _⟩ => ⟨S262144x8x32, .f32⟩
  | .hbm, ⟨60, _⟩ => ⟨S262144x8x32, .f32⟩
  | .hbm, ⟨61, _⟩ => ⟨S262144x256, .f32⟩
  | .hbm, ⟨62, _⟩ => ⟨S_, .f32⟩
  | .hbm, ⟨63, _⟩ => ⟨S262144, .f32⟩
  | .hbm, ⟨64, _⟩ => ⟨S_, .f32⟩
  | .hbm, ⟨65, _⟩ => ⟨S262144, .f32⟩
  | .hbm, ⟨66, _⟩ => ⟨S262144, .f32⟩
  | .hbm, ⟨67, _⟩ => ⟨S262144, .f32⟩
  | .hbm, ⟨68, _⟩ => ⟨S262144, .f32⟩
  | .hbm, ⟨69, _⟩ => ⟨S_, .f32⟩
  | .hbm, ⟨70, _⟩ => ⟨S262144, .f32⟩
  | .hbm, ⟨71, _⟩ => ⟨S262144, .f32⟩
  | .hbm, ⟨72, _⟩ => ⟨S_, .f32⟩
  | .hbm, ⟨73, _⟩ => ⟨S262144, .f32⟩
  | .hbm, ⟨74, _⟩ => ⟨S262144, .f32⟩
  | .hbm, ⟨75, _⟩ => ⟨S262144x1x1, .f32⟩
  | .hbm, ⟨76, _⟩ => ⟨S262144x8x32, .f32⟩
  | .hbm, ⟨77, _⟩ => ⟨S262144x8x32, .f32⟩
  | .hbm, ⟨78, _⟩ => ⟨S262144x8x32, .f32⟩
  | .hbm, ⟨79, _⟩ => ⟨S262144x8x32, .f32⟩
  | .hbm, ⟨80, _⟩ => ⟨S262144x8x32, .i32⟩
  | .hbm, ⟨81, _⟩ => ⟨S_, .f32⟩
  | .hbm, ⟨82, _⟩ => ⟨S262144x8, .f32⟩
  | .hbm, ⟨83, _⟩ => ⟨S_, .f32⟩
  | .hbm, ⟨84, _⟩ => ⟨S262144x8, .f32⟩
  | .hbm, ⟨85, _⟩ => ⟨S262144x8, .f32⟩
  | .hbm, ⟨86, _⟩ => ⟨S_, .f32⟩
  | .hbm, ⟨87, _⟩ => ⟨S262144x8, .f32⟩
  | .hbm, ⟨88, _⟩ => ⟨S262144x8, .f32⟩
  | .hbm, ⟨89, _⟩ => ⟨S_, .f32⟩
  | .hbm, ⟨90, _⟩ => ⟨S262144x8, .f32⟩
  | .hbm, ⟨91, _⟩ => ⟨S262144x8, .f32⟩
  | .hbm, ⟨92, _⟩ => ⟨S_, .f32⟩
  | .hbm, ⟨93, _⟩ => ⟨S262144x8, .f32⟩
  | .hbm, ⟨94, _⟩ => ⟨S262144x8, .f32⟩
  | .hbm, ⟨95, _⟩ => ⟨S262144x8x1, .f32⟩
  | .hbm, ⟨96, _⟩ => ⟨S262144x8x32, .f32⟩
  | .hbm, ⟨97, _⟩ => ⟨S262144x8x32, .f32⟩
  | .hbm, ⟨98, _⟩ => ⟨S262144x8x1, .f32⟩
  | .hbm, ⟨99, _⟩ => ⟨S262144x8x32, .f32⟩
  | .hbm, ⟨100, _⟩ => ⟨S262144x8x32, .f32⟩
  | .hbm, ⟨101, _⟩ => ⟨S_, .i32⟩
  | .hbm, ⟨102, _⟩ => ⟨S262144x8x32, .i32⟩
  | .hbm, ⟨103, _⟩ => ⟨S262144x8x32, .i32⟩
  | .hbm, ⟨104, _⟩ => ⟨S262144x8x32, .f32⟩
  | .hbm, ⟨105, _⟩ => ⟨S_, .f32⟩
  | .hbm, ⟨106, _⟩ => ⟨S262144x8x32, .f32⟩
  | .hbm, ⟨107, _⟩ => ⟨S262144x8x32, .f32⟩
  | .hbm, ⟨108, _⟩ => ⟨S262144x8x32, .f32⟩
  | .hbm, ⟨109, _⟩ => ⟨S262144x8x32, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S262144x8x32, .f32⟩
  | .hbm, ⟨114, _⟩ => ⟨S262144x8x32, .f32⟩
  | .hbm, ⟨115, _⟩ => ⟨S_, .f32⟩
  | .hbm, ⟨116, _⟩ => ⟨S262144x8x32, .f32⟩
  | .hbm, ⟨117, _⟩ => ⟨S262144x8x32, .f32⟩
  | .hbm, ⟨118, _⟩ => ⟨S262144x8x32, .i32⟩
  | .hbm, ⟨119, _⟩ => ⟨S262144x8x32, .i8⟩
  | .hbm, ⟨120, _⟩ => ⟨S262144x256, .i8⟩
  | _, _ => ⟨S1500000x256, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_cst_19 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]
-- ==== Proof.Spec.lean ====
/-
  One row's update, in plain scalar mathematics over the extended reals.

  A row holds 256 eight-bit codes in 8 blocks of 32. A block has one scale and one bias, and a code `c` stands for the
  weight `c * scale + bias`. The update adds the mean square of the row's gradient to the row's state, moves every
  weight by the gradient times a step size that depends on the new state, and codes each block again: its new bias is
  the least new weight, its new scale is the range over 255, and its codes are the weights' places in the range, a
  random number in [0, 1) added before the floor.
-/
module

public import Idealize.ShloMosaic.Lib.Pointwise

@[expose] public section

noncomputable section

namespace Cert.RowUpdate

open Idealize.ShloMosaic

/-- The row's state after the update: the state before plus the mean of the squared gradient (`0x3B800000` is 1/256). -/
def state (mom : EReal) (g : Fin 256 → EReal) : EReal :=
  mom + (∑ k, g k * g k) * Ideal.ofBits .f32 0x3B800000#32

/-- The step size at a state: the learning rate (`0x3CA3D70A` is 0.02) over the root of the state plus `0x322BCC77`, 1e-8. -/
def step (s : EReal) : EReal :=
  Ideal.div (Ideal.ofBits .f32 0x3CA3D70A#32) (Ideal.sqrt s + Ideal.ofBits .f32 0x322BCC77#32)

/-- The new weight of one element: the weight its code stands for, less the step size times its gradient. -/
def weight (code : BitVec 8) (scale bias step g : EReal) : EReal :=
  ((code.toNat : ℝ) : EReal) * scale + bias - step * g

/-- The least of a block's weights: the block's new bias. -/
def least (w : Fin 32 → EReal) : EReal := Finset.univ.fold min (Ideal.ofBits .f32 0x7F800000#32) w

/-- The greatest of a block's weights. -/
def greatest (w : Fin 32 → EReal) : EReal := Finset.univ.fold max (Ideal.ofBits .f32 0xFF800000#32) w

/-- The range of a block's weights. -/
def range (w : Fin 32 → EReal) : EReal := greatest w - least w

/-- A block's new scale: its range over 255 (`0x437F0000`). -/
def scale (w : Fin 32 → EReal) : EReal := Ideal.div (range w) (Ideal.ofBits .f32 0x437F0000#32)

/-- A random word as a fraction in [0, 1): its upper 24 bits times 2^-24 (`0x33800000`). -/
def fraction (r : BitVec 32) : EReal := (((r.toNat / 256 : ℕ) : ℝ) : EReal) * Ideal.ofBits .f32 0x33800000#32

/-- The new code of a block's `j`-th weight, as an extended real between 0 and 255. -/
def place (w : Fin 32 → EReal) (j : Fin 32) (frac : EReal) : EReal :=
  min (Ideal.ofBits .f32 0x437F0000#32) (max 0 (Ideal.liftRound Int.floor
    ((w j - least w) * Ideal.div (Ideal.ofBits .f32 0x437F0000#32) (range w + Ideal.ofBits .f32 0x322BCC77#32) + frac)))

/-- The new code as the eight-bit word stored. -/
def code (w : Fin 32 → EReal) (j : Fin 32) (frac : EReal) : BitVec 8 :=
  BitVec.setWidth 8 (FloatOps.fptosi (F := Ideal) (φ := .f32) 32 (place w j frac))

/-- The element of a row that block `b` holds at place `j`. -/
def lane (b : Fin 8) (j : Fin 32) : Fin 256 := ⟨32 * b + j, by omega⟩

/-! ## The conversions, the shift and the quotient as the programs spell them -/

/-- An eight-bit code widened without sign to 32 bits and read as a signed number is the code. -/
theorem sitofp_code (c : BitVec 8) :
    FloatOps.sitofp (F := Ideal) .f32 (BitVec.setWidth 32 c) = ((c.toNat : ℝ) : EReal) := by
  show ((((BitVec.setWidth 32 c).toInt : ℤ) : ℝ) : EReal) = _
  have h : (BitVec.setWidth 32 c).toInt = (c.toNat : ℤ) := by
    rw [BitVec.toInt_eq_toNat_of_lt] <;> rw [BitVec.toNat_setWidth] <;> have := c.isLt <;> omega
  rw [h]; norm_cast

/-- A word shifted right by 8 is the word over 256, on any unit. -/
theorem shrui_8 (u : ArithUnit) (r : BitVec 32) : (IntOp.shrui u r 8#32).toNat = r.toNat / 256 := by
  rw [IntOp.shrui, if_pos (by decide)]
  simp [Nat.shiftRight_eq_div_pow]

/-- A word's upper 24 bits read as a signed number: the word over 256. -/
theorem sitofp_shift (u : ArithUnit) (r : BitVec 32) :
    FloatOps.sitofp (F := Ideal) .f32 (IntOp.shrui u r 8#32) = (((r.toNat / 256 : ℕ) : ℝ) : EReal) := by
  show ((((IntOp.shrui u r 8#32).toInt : ℤ) : ℝ) : EReal) = _
  have e : (IntOp.shrui u r 8#32).toNat = r.toNat / 256 := shrui_8 u r
  have h : (IntOp.shrui u r 8#32).toInt = ((r.toNat / 256 : ℕ) : ℤ) := by
    rw [BitVec.toInt_eq_toNat_of_lt] <;> rw [e] ; have := r.isLt ; omega
  rw [h]; norm_cast

/-- The same read as an unsigned number. -/
theorem uitofp_shift (u : ArithUnit) (r : BitVec 32) :
    FloatOps.uitofp (F := Ideal) .f32 (IntOp.shrui u r 8#32) = (((r.toNat / 256 : ℕ) : ℝ) : EReal) := by
  show ((((IntOp.shrui u r 8#32).toNat : ℕ) : ℝ) : EReal) = _
  rw [shrui_8]

/-- A quotient by 256 is a product with 1/256. -/
theorem div_256 (x : EReal) :
    Ideal.div x (Ideal.ofBits .f32 0x43800000#32) = x * Ideal.ofBits .f32 0x3B800000#32 := by
  have h : Ideal.ofBits .f32 0x43800000#32 = ((256 : ℝ) : EReal) := by
    simp [Ideal.ofBits, Ideal.ieee, -EReal.coe_mul]; norm_num
  have h' : Ideal.ofBits .f32 0x3B800000#32 = ((256⁻¹ : ℝ) : EReal) := by
    simp [Ideal.ofBits, Ideal.ieee, -EReal.coe_mul]; norm_num
  rw [h, h', Ideal.div, if_neg (by norm_cast), EReal.coe_inv]

end Cert.RowUpdate
-- ==== Proof.Blocks.lean ====
/-
  What the kernel's body leaves in its four output blocks, element by element, in the scalar mathematics of `Spec`.

  A point of the grid holds 512 rows. The body works on the transposed blocks (a row of the table is a column there) and
  treats the 8 blocks of codes one after the other with the same operations; those operations are stated here once, at
  any offset, and every store's payload is one of them at its own offset.
-/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Blocks

open Cert.KernelIdeal Cert.KernelIdeal.Gen Idealize.ShloMosaic Cert.RowUpdate

/-! ## The operations of one block, at any offset -/

/-- The new weights of the 32 transposed rows from `o` on: codes `v21`, gradients `v2`, step sizes `v16`, the block's
    scales `s` and biases `z`. -/
def weights (v2 : FVec Ideal S256x512 .f32) (v16 : FVec Ideal S1x512 .f32) (v21 : FVec Ideal S256x512 .f32)
    (s z : Vec Ideal S1x512 .f32) (o : ℕ) (h : S256x512.Slices ![o, 0] S32x512) : FVec Ideal S32x512 .f32 :=
  subf (addf (mulf (extractStridedSlice S32x512 ![o, 0] v21 h)
      (broadcastTo S32x512 (shapeCast S1x512 s shapeCasts_S1x512_S1x512) broadcasts_S1x512_S32x512))
      (broadcastTo S32x512 (shapeCast S1x512 z shapeCasts_S1x512_S1x512) broadcasts_S1x512_S32x512))
    (mulf (broadcastTo S32x512 v16 broadcasts_S1x512_S32x512) (extractStridedSlice S32x512 ![o, 0] v2 h))

/-- The least weight of every column. -/
def leasts (w : FVec Ideal S32x512 .f32) : FVec Ideal S1x512 .f32 :=
  shapeCast S1x512 (multiReduction .minimumf [0] S512 w 0x7F800000#32 reduces_S32x512_S512 (.inl rfl) rfl)
    shapeCasts_S512_S1x512

/-- The range of every column's weights. -/
def ranges (w : FVec Ideal S32x512 .f32) : FVec Ideal S1x512 .f32 :=
  subf (shapeCast S1x512 (multiReduction .maximumf [0] S512 w 0xFF800000#32 reduces_S32x512_S512 (.inl rfl) rfl)
    shapeCasts_S512_S1x512) (leasts w)

/-- The new scale of every column. -/
def scales (w : FVec Ideal S32x512 .f32) : FVec Ideal S1x512 .f32 :=
  divf (ranges w) (broadcast S1x512 (Scalar.ofBits .f32 0x437F0000#32))

/-- The new codes of the 32 transposed rows from `o` on, as extended reals: `v28` holds the random fractions. -/
def places (w : FVec Ideal S32x512 .f32) (v28 : FVec Ideal S256x512 .f32) (o : ℕ)
    (h : S256x512.Slices ![o, 0] S32x512) : FVec Ideal S32x512 .f32 :=
  minimumf (broadcast S32x512 (Scalar.ofBits .f32 0x437F0000#32))
    (maximumf (broadcast S32x512 (Scalar.ofBits .f32 0x00000000#32))
      (floor (addf (mulf (subf w (broadcastTo S32x512 (leasts w) broadcasts_S1x512_S32x512))
        (broadcastTo S32x512 (divf (broadcast S1x512 (Scalar.ofBits .f32 0x437F0000#32))
          (addf (ranges w) (broadcast S1x512 (Scalar.ofBits .f32 0x322BCC77#32)))) broadcasts_S1x512_S32x512))
        (extractStridedSlice S32x512 ![o, 0] v28 h))))

/-- A column's least weight is the least of the column. -/
theorem leasts_apply (w : FVec Ideal S32x512 .f32) (x : S1x512.Idx) :
    leasts w x = least fun j => w (ix2 j (x 1)) := by
  pointwise [leasts, least]

/-- A column's new scale is the scale of the column. -/
theorem scales_apply (w : FVec Ideal S32x512 .f32) (x : S1x512.Idx) :
    scales w x = scale fun j => w (ix2 j (x 1)) := by
  pointwise [scales, ranges, leasts, least, greatest, range, scale]

/-- A new code is its weight's place in its column. -/
theorem places_apply (w : FVec Ideal S32x512 .f32) (v28 : FVec Ideal S256x512 .f32) (b : Fin 8) (o : ℕ) (ho : o = 32 * b)
    (h : S256x512.Slices ![o, 0] S32x512) (j : Fin 32) (n : Fin 512) :
    places w v28 o h (ix2 j n) = place (fun j => w (ix2 j n)) j (v28 (ix2 (lane b j) n)) := by
  subst ho
  pointwise [places, ranges, leasts, least, greatest, range, place, lane]

/-! ## The body's values at an element -/

variable (x0 : Vec Ideal S512x256 .f32) (x1 : Vec Ideal S512x256 .i8) (x2 x3 : Vec Ideal S8x512 .f32)
  (x4 : Vec Ideal S1x512 .f32) (x5 : Vec Ideal S512x256 .i32)

/-- The new state of row `n` of the point's blocks. -/
def rowState (n : Fin 512) : EReal := state (x4 (ix2 0 n)) fun k => x0 (ix2 n k)

/-- The new weights of block `b` of row `n` of the point's blocks. -/
def rowWeight (b : Fin 8) (n : Fin 512) (j : Fin 32) : EReal :=
  weight (x1 (ix2 n (lane b j))) (x2 (ix2 b n)) (x3 (ix2 b n)) (step (rowState x0 x4 n)) (x0 (ix2 n (lane b j)))

/-- Block `b`'s rows of the transposed blocks lie inside them. -/
theorem slices (b : Fin 8) : S256x512.Slices ![32 * b, 0] S32x512 := by
  revert b; decide

/-- Row `b` of a block of scales or biases lies inside it. -/
theorem inb (b : Fin 8) : ∀ a, (![(b : ℕ), 0] : Fin 2 → ℕ) a + S1x512.size a ≤ S8x512.size a := by
  revert b; decide

/-- Row `b` of a block of scales or biases. -/
abbrev row (b : Fin 8) : Rect S8x512 := Rect.unit (s := S8x512) ![(b : ℕ), 0] S1x512.size (inb b)

/-- The body's vector of block `b`'s new weights. -/
def bodyWeights (b : Fin 8) : FVec Ideal S32x512 .f32 :=
  weights (k0_pay2 (View.ld x0 r0_0)) (k0_pay4 (View.ld x0 r0_0) (View.ld x4 r0_1)) (k0_pay5 (View.ld x1 r0_0))
    (View.ld x2 (row b)) (View.ld x3 (row b)) (32 * b) (slices b)

/-- It holds block `b`'s new weights, a column for every row. -/
theorem bodyWeights_apply (b : Fin 8) (j : Fin 32) (n : Fin 512) :
    bodyWeights x0 x1 x2 x3 x4 b (ix2 j n) = rowWeight x0 x1 x2 x3 x4 b n j := by
  pointwise [bodyWeights, weights, rowWeight, weight, step, rowState, state, k0_pay2, k0_pay3, k0_pay4, k0_pay5, lane,
    sitofp_code]

/-- The body's vector of block `b`'s new codes, as extended reals. -/
def bodyPlaces (b : Fin 8) : FVec Ideal S32x512 .f32 :=
  places (bodyWeights x0 x1 x2 x3 x4 b) (k0_pay6 (View.ld x5 r0_0)) (32 * b) (slices b)

/-- It holds block `b`'s new codes, a column for every row. -/
theorem bodyPlaces_apply (b : Fin 8) (j : Fin 32) (n : Fin 512) :
    bodyPlaces x0 x1 x2 x3 x4 x5 b (ix2 j n)
      = place (rowWeight x0 x1 x2 x3 x4 b n) j (fraction (x5 (ix2 n (lane b j)))) := by
  rw [bodyPlaces, places_apply _ _ b _ rfl]
  simp only [bodyWeights_apply]
  congr 1
  pointwise [k0_pay6, fraction, sitofp_shift]

/-! ## The four output blocks -/

/-- The new states: one per row. -/
theorem out0_9_apply (n : Fin 512) : out0_9 x0 x1 x2 x3 x4 x5 (ix2 0 n) = rowState x0 x4 n := by
  canon_tiles x h
  obtain rfl : n = x 1 := Fin.ext h1
  pointwise [k0_pay3, k0_pay2, rowState, state]

/-- The row of biases stored for block `b'` holds the blocks' least weights. -/
theorem least_piece (b' b : Fin 8) (n : Fin 512) (x : S1x512.Idx) (h0 : (b : ℕ) = b' + x 0) (h1 : (n : ℕ) = x 1) :
    leasts (bodyWeights x0 x1 x2 x3 x4 b') x = least (rowWeight x0 x1 x2 x3 x4 b n) := by
  have hx : (x 0 : ℕ) < 1 := (x 0).isLt
  obtain rfl : b = b' := Fin.ext (by omega)
  obtain rfl : x = ix2 0 n := by
    rw [eq_ix2 x]; exact congrArg₂ ix2 (Fin.ext (Nat.lt_one_iff.1 hx)) (Fin.ext h1.symm)
  exact (leasts_apply _ (ix2 0 n)).trans (congrArg least (funext fun j => bodyWeights_apply x0 x1 x2 x3 x4 b j n))

/-- The row of scales stored for block `b'` holds the blocks' scales. -/
theorem scale_piece (b' b : Fin 8) (n : Fin 512) (x : S1x512.Idx) (h0 : (b : ℕ) = b' + x 0) (h1 : (n : ℕ) = x 1) :
    scales (bodyWeights x0 x1 x2 x3 x4 b') x = scale (rowWeight x0 x1 x2 x3 x4 b n) := by
  have hx : (x 0 : ℕ) < 1 := (x 0).isLt
  obtain rfl : b = b' := Fin.ext (by omega)
  obtain rfl : x = ix2 0 n := by
    rw [eq_ix2 x]; exact congrArg₂ ix2 (Fin.ext (Nat.lt_one_iff.1 hx)) (Fin.ext h1.symm)
  exact (scales_apply _ (ix2 0 n)).trans (congrArg scale (funext fun j => bodyWeights_apply x0 x1 x2 x3 x4 b j n))

/-- The new biases: a block's least new weight. -/
theorem out0_8_apply (b : Fin 8) (n : Fin 512) :
    out0_8 x0 x1 x2 x3 x4 x5 (ix2 b n) = least (rowWeight x0 x1 x2 x3 x4 b n) := by
  canon_tiles x h
  · exact least_piece x0 x1 x2 x3 x4 7 b n x h0 h1
  · exact least_piece x0 x1 x2 x3 x4 6 b n x h0 h1
  · exact least_piece x0 x1 x2 x3 x4 5 b n x h0 h1
  · exact least_piece x0 x1 x2 x3 x4 4 b n x h0 h1
  · exact least_piece x0 x1 x2 x3 x4 3 b n x h0 h1
  · exact least_piece x0 x1 x2 x3 x4 2 b n x h0 h1
  · exact least_piece x0 x1 x2 x3 x4 1 b n x h0 h1
  · exact least_piece x0 x1 x2 x3 x4 0 b n x (h0.trans (Nat.zero_add _).symm) h1

/-- The new scales. -/
theorem out0_7_apply (b : Fin 8) (n : Fin 512) :
    out0_7 x0 x1 x2 x3 x4 x5 (ix2 b n) = scale (rowWeight x0 x1 x2 x3 x4 b n) := by
  canon_tiles x h
  · exact scale_piece x0 x1 x2 x3 x4 7 b n x h0 h1
  · exact scale_piece x0 x1 x2 x3 x4 6 b n x h0 h1
  · exact scale_piece x0 x1 x2 x3 x4 5 b n x h0 h1
  · exact scale_piece x0 x1 x2 x3 x4 4 b n x h0 h1
  · exact scale_piece x0 x1 x2 x3 x4 3 b n x h0 h1
  · exact scale_piece x0 x1 x2 x3 x4 2 b n x h0 h1
  · exact scale_piece x0 x1 x2 x3 x4 1 b n x h0 h1
  · exact scale_piece x0 x1 x2 x3 x4 0 b n x (h0.trans (Nat.zero_add _).symm) h1

/-- A lane lies in one block at one place. -/
theorem same_place (f : Fin 8 → FVec Ideal S32x512 .f32) (b' b : Fin 8) (i j : Fin 32) (n : Fin 512)
    (h : 32 * (b' : ℕ) + i = 32 * b + j) : f b' (ix2 i n) = f b (ix2 j n) := by
  obtain rfl : b' = b := Fin.ext (by omega)
  obtain rfl : i = j := Fin.ext (by omega)
  rfl

/-- Eight vectors of 32 rows laid one after the other, read at place `j` of block `b`. -/
theorem concat_apply (f : Fin 8 → FVec Ideal S32x512 .f32) (b : Fin 8) (j : Fin 32) (n : Fin 512) :
    concatenate S256x512 0 [⟨S32x512, f 0⟩, ⟨S32x512, f 1⟩, ⟨S32x512, f 2⟩, ⟨S32x512, f 3⟩, ⟨S32x512, f 4⟩,
      ⟨S32x512, f 5⟩, ⟨S32x512, f 6⟩, ⟨S32x512, f 7⟩]
      concatenates_S32x512_S32x512_S32x512_S32x512_S32x512_S32x512_S32x512_S32x512_S256x512_d0 (ix2 (lane b j) n)
      = f b (ix2 j n) := by
  have hj := j.isLt
  have hl : (lane b j : ℕ) = 32 * b + j := rfl
  pointwise
  split_ifs <;> exact same_place f _ _ _ _ n (by simp; omega)

/-- The stored codes are the transposed vector's values, rounded to bytes. -/
theorem stored_code (v : FVec Ideal S256x512 .f32) (n : Fin 512) (l : Fin 256) :
    k0_pay1 v (ix2 n l) = BitVec.setWidth 8 (FloatOps.fptosi (F := Ideal) (φ := .f32) 32 (v (ix2 l n))) := by
  pointwise [k0_pay1]

/-- The new codes. -/
theorem out0_6_apply (n : Fin 512) (b : Fin 8) (j : Fin 32) :
    out0_6 x0 x1 x2 x3 x4 x5 (ix2 n (lane b j))
      = code (rowWeight x0 x1 x2 x3 x4 b n) j (fraction (x5 (ix2 n (lane b j)))) := by
  canon_tiles x h
  obtain rfl : x = ix2 n (lane b j) := by
    rw [eq_ix2 x]; exact congrArg₂ ix2 (Fin.ext h0.symm) (Fin.ext h1.symm)
  rw [stored_code]
  exact congrArg (fun v => BitVec.setWidth 8 (FloatOps.fptosi (F := Ideal) (φ := .f32) 32 v))
    ((concat_apply (bodyPlaces x0 x1 x2 x3 x4 x5) b j n).trans (bodyPlaces_apply x0 x1 x2 x3 x4 x5 b j n))

end Cert.KernelIdeal.Blocks
-- ==== Proof.Arrays.lean ====
/-
  What the kernel's four output arrays hold after the last point of the grid, element by element, from the arrays the
  pipeline finds at its entry.
-/
module

public import proofs.«01_k».proof.Proof.Blocks
public import Idealize.ShloMosaic.Lib.Pipeline.Covers

@[expose] public section

set_option maxRecDepth 16384

noncomputable section

namespace Cert.KernelIdeal.Arrays

open Cert.KernelIdeal Cert.KernelIdeal.Gen Cert.KernelIdeal.Blocks Idealize.ShloMosaic Idealize.ShloMosaic.Pipeline
  Cert.RowUpdate

variable (m : (ℓ : Loc nD τ sig) → Buf (Elt Ideal) ℓ) (c : Dev nD)

/-- Row `n` of the `i`-th group of 512 rows. -/
def rowOf (i : Fin 512) (n : Fin 512) : Fin 262144 := ⟨i * 512 + n, by omega⟩

/-- The new state of row `N`. -/
def rowState (N : Fin 262144) : EReal := state (V m c main_v37 (ix2 0 N)) fun k => V m c main_v6 (ix2 N k)

/-- The new weights of block `b` of row `N`. -/
def rowWeight (b : Fin 8) (N : Fin 262144) (j : Fin 32) : EReal :=
  weight (V m c main_v13 (ix2 N (lane b j))) (V m c main_v21 (ix2 b N)) (V m c main_v29 (ix2 b N))
    (step (rowState m c N)) (V m c main_v6 (ix2 N (lane b j)))

/-- The block a lane lies in. -/
def blockOf (l : Fin 256) : Fin 8 := ⟨l / 32, by omega⟩

/-- A lane's place in its block. -/
def placeOf (l : Fin 256) : Fin 32 := ⟨l % 32, by omega⟩

/-- A lane is the place it has in its block. -/
theorem lane_of (l : Fin 256) : lane (blockOf l) (placeOf l) = l := Fin.ext (by simp [lane, blockOf, placeOf]; omega)

/-! ## The blocks at a point -/

/-- A coordinate of the grid survives the passage through a 32-bit word. -/
theorem toNat_coord (i : grid0.Coords) : (BitVec.ofNat 32 (i 0).val).toNat = (i 0).val := by
  have h : (i 0).val < 512 := (i 0).isLt
  rw [BitVec.toNat_ofNat]; omega

/-- The windows over the arrays that hold a row of the table as a row take one group of rows at every point. -/
theorem rows_index (t : Fin cfg0.N) : cc0_transform_0 (grid0.coords t) = ![(grid0.coords t 0).val, 0] := by
  simp only [cc0_transform_0, toNat_coord]; rfl

/-- The windows over the arrays that hold it as a column take one group of columns. -/
theorem columns_index (t : Fin cfg0.N) : cc0_transform_2 (grid0.coords t) = ![0, (grid0.coords t 0).val] := by
  simp only [cc0_transform_2, toNat_coord]; rfl

/-- The block of gradients at a point, of any array. -/
theorem read_0 (X : Vec Ideal S262144x256 .f32) (t : Fin cfg0.N) (n : Fin 512) (k : Fin 256) :
    ((cfg0.win 0).blk t).view.read (Elt Ideal) X (ix2 n k) = X (ix2 (rowOf (grid0.coords t 0) n) k) := by
  have e : win0_0.index t = _ := rows_index t
  blk_simp
  exact congrArg X (by blk_ext [e, rowOf])

/-- The block of gradients at a point. -/
theorem iblk_0 (t : Fin cfg0.N) (n : Fin 512) (k : Fin 256) :
    iblk m c 0 t (ix2 n k) = V m c main_v6 (ix2 (rowOf (grid0.coords t 0) n) k) := by
  unfold iblk
  exact read_0 (V m c main_v6) t n k

/-- The block of codes at a point, of any array. -/
theorem read_1 (X : Vec Ideal S262144x256 .i8) (t : Fin cfg0.N) (n : Fin 512) (k : Fin 256) :
    ((cfg0.win 1).blk t).view.read (Elt Ideal) X (ix2 n k) = X (ix2 (rowOf (grid0.coords t 0) n) k) := by
  have e : win0_1.index t = _ := rows_index t
  blk_simp
  exact congrArg X (by blk_ext [e, rowOf])

/-- The block of codes at a point. -/
theorem iblk_1 (t : Fin cfg0.N) (n : Fin 512) (k : Fin 256) :
    iblk m c 1 t (ix2 n k) = V m c main_v13 (ix2 (rowOf (grid0.coords t 0) n) k) := by
  unfold iblk
  exact read_1 (V m c main_v13) t n k

/-- The block of scales at a point, of any array. -/
theorem read_2 (X : Vec Ideal S8x262144 .f32) (t : Fin cfg0.N) (b : Fin 8) (n : Fin 512) :
    ((cfg0.win 2).blk t).view.read (Elt Ideal) X (ix2 b n) = X (ix2 b (rowOf (grid0.coords t 0) n)) := by
  have e : win0_2.index t = _ := columns_index t
  blk_simp
  exact congrArg X (by blk_ext [e, rowOf])

/-- The block of scales at a point. -/
theorem iblk_2 (t : Fin cfg0.N) (b : Fin 8) (n : Fin 512) :
    iblk m c 2 t (ix2 b n) = V m c main_v21 (ix2 b (rowOf (grid0.coords t 0) n)) := by
  unfold iblk
  exact read_2 (V m c main_v21) t b n

/-- The block of biases at a point, of any array. -/
theorem read_3 (X : Vec Ideal S8x262144 .f32) (t : Fin cfg0.N) (b : Fin 8) (n : Fin 512) :
    ((cfg0.win 3).blk t).view.read (Elt Ideal) X (ix2 b n) = X (ix2 b (rowOf (grid0.coords t 0) n)) := by
  have e : win0_3.index t = _ := columns_index t
  blk_simp
  exact congrArg X (by blk_ext [e, rowOf])

/-- The block of biases at a point. -/
theorem iblk_3 (t : Fin cfg0.N) (b : Fin 8) (n : Fin 512) :
    iblk m c 3 t (ix2 b n) = V m c main_v29 (ix2 b (rowOf (grid0.coords t 0) n)) := by
  unfold iblk
  exact read_3 (V m c main_v29) t b n

/-- The block of states at a point, of any array. -/
theorem read_4 (X : Vec Ideal S1x262144 .f32) (t : Fin cfg0.N) (n : Fin 512) :
    ((cfg0.win 4).blk t).view.read (Elt Ideal) X (ix2 0 n) = X (ix2 0 (rowOf (grid0.coords t 0) n)) := by
  have e : win0_4.index t = _ := columns_index t
  blk_simp
  exact congrArg X (by blk_ext [e, rowOf])

/-- The block of states at a point. -/
theorem iblk_4 (t : Fin cfg0.N) (n : Fin 512) :
    iblk m c 4 t (ix2 0 n) = V m c main_v37 (ix2 0 (rowOf (grid0.coords t 0) n)) := by
  unfold iblk
  exact read_4 (V m c main_v37) t n

/-- The block of random words at a point, of any array. -/
theorem read_5 (X : Vec Ideal S262144x256 .i32) (t : Fin cfg0.N) (n : Fin 512) (k : Fin 256) :
    ((cfg0.win 5).blk t).view.read (Elt Ideal) X (ix2 n k) = X (ix2 (rowOf (grid0.coords t 0) n) k) := by
  have e : win0_5.index t = _ := rows_index t
  blk_simp
  exact congrArg X (by blk_ext [e, rowOf])

/-- The block of random words at a point. -/
theorem iblk_5 (t : Fin cfg0.N) (n : Fin 512) (k : Fin 256) :
    iblk m c 5 t (ix2 n k) = V m c main_arg7 (ix2 (rowOf (grid0.coords t 0) n) k) := by
  unfold iblk
  exact read_5 (V m c main_arg7) t n k

/-- A point's new states are the arrays'. -/
theorem rowState_block (t : Fin cfg0.N) (n : Fin 512) :
    Blocks.rowState (iblk m c 0 t) (iblk m c 4 t) n = rowState m c (rowOf (grid0.coords t 0) n) := by
  simp only [Blocks.rowState, rowState, iblk_0, iblk_4]

/-- A point's new weights are the arrays'. -/
theorem rowWeight_block (t : Fin cfg0.N) (b : Fin 8) (n : Fin 512) :
    Blocks.rowWeight (iblk m c 0 t) (iblk m c 1 t) (iblk m c 2 t) (iblk m c 3 t) (iblk m c 4 t) b n
      = rowWeight m c b (rowOf (grid0.coords t 0) n) := by
  funext j
  simp only [Blocks.rowWeight, rowWeight, rowState_block, iblk_0, iblk_1, iblk_2, iblk_3]

/-! ## The arrays after the last point -/

/-- The coordinates of a group of rows. -/
def groupAt (i : Fin 512) : grid0.Coords := fun a => ⟨i, by fin_cases a; exact i.isLt⟩

/-- At a group of rows, the windows over rows take that group. -/
theorem rows_at (i : Fin 512) (k : ℕ) (hk : k < 1) : ∀ a, cc0_transform_0 (groupAt i) a = (![(i : ℕ), k] : Fin 2 → ℕ) a := by
  obtain rfl : k = 0 := by omega
  simp only [cc0_transform_0, toNat_coord]
  exact fun a => by fin_cases a <;> rfl

/-- At a group of rows, the windows over columns take that group. -/
theorem columns_at (i : Fin 512) (k : ℕ) (hk : k < 1) :
    ∀ a, cc0_transform_2 (groupAt i) a = (![k, (i : ℕ)] : Fin 2 → ℕ) a := by
  obtain rfl : k = 0 := by omega
  simp only [cc0_transform_2, toNat_coord]
  exact fun a => by fin_cases a <;> rfl

/-- The array of new codes. -/
theorem codes_eq : (dats m 0 c).arrAt 6 cfg0.N = fun i : S262144x256.Idx =>
    code (rowWeight m c (blockOf (i 1)) (i 0)) (placeOf (i 1)) (fraction (V m c main_arg7 i)) := by
  refine (dats m 0 c).arrAt_eq_of_covers 6 _ ((cfg0.win 6).covers_of_indexMap_surj rfl (by decide) fun β =>
    ⟨groupAt (β 0), fun a => (rows_at (β 0) (β 1) (β 1).isLt a).trans (by fin_cases a <;> rfl)⟩) fun t hf y => ?_
  blk_simp
  rw [after0_6]
  have e : win0_6.index t = _ := rows_index t
  obtain ⟨n, l, rfl⟩ : ∃ n l, y = ix2 n l := ⟨y 0, y 1, eq_ix2 y⟩
  rw [show (win0_6.blk t).view.emb (ix2 n l) = ix2 (rowOf (grid0.coords t 0) n) l by blk_ext [e, rowOf]]
  show _ = code (rowWeight m c (blockOf l) (rowOf (grid0.coords t 0) n)) (placeOf l)
    (fraction (V m c main_arg7 (ix2 (rowOf (grid0.coords t 0) n) l)))
  rw [← iblk_5, ← rowWeight_block]
  have h := out0_6_apply (iblk m c 0 t) (iblk m c 1 t) (iblk m c 2 t) (iblk m c 3 t) (iblk m c 4 t) (iblk m c 5 t) n
    (blockOf l) (placeOf l)
  rw [lane_of] at h
  exact h

/-- The array of new scales, transposed. -/
theorem scales_eq : (dats m 0 c).arrAt 7 cfg0.N = fun i : S8x262144.Idx => scale (rowWeight m c (i 0) (i 1)) := by
  refine (dats m 0 c).arrAt_eq_of_covers 7 _ ((cfg0.win 7).covers_of_indexMap_surj rfl (by decide) fun β =>
    ⟨groupAt (β 1), fun a => (columns_at (β 1) (β 0) (β 0).isLt a).trans (by fin_cases a <;> rfl)⟩) fun t hf y => ?_
  blk_simp
  rw [after0_7]
  have e : win0_7.index t = _ := columns_index t
  obtain ⟨b, n, rfl⟩ : ∃ b n, y = ix2 b n := ⟨y 0, y 1, eq_ix2 y⟩
  rw [show (win0_7.blk t).view.emb (ix2 b n) = ix2 b (rowOf (grid0.coords t 0) n) by blk_ext [e, rowOf]]
  show _ = scale (rowWeight m c b (rowOf (grid0.coords t 0) n))
  rw [← rowWeight_block]
  exact out0_7_apply _ _ _ _ _ _ b n

/-- The array of new biases, transposed. -/
theorem biases_eq : (dats m 0 c).arrAt 8 cfg0.N = fun i : S8x262144.Idx => least (rowWeight m c (i 0) (i 1)) := by
  refine (dats m 0 c).arrAt_eq_of_covers 8 _ ((cfg0.win 8).covers_of_indexMap_surj rfl (by decide) fun β =>
    ⟨groupAt (β 1), fun a => (columns_at (β 1) (β 0) (β 0).isLt a).trans (by fin_cases a <;> rfl)⟩) fun t hf y => ?_
  blk_simp
  rw [after0_8]
  have e : win0_8.index t = _ := columns_index t
  obtain ⟨b, n, rfl⟩ : ∃ b n, y = ix2 b n := ⟨y 0, y 1, eq_ix2 y⟩
  rw [show (win0_8.blk t).view.emb (ix2 b n) = ix2 b (rowOf (grid0.coords t 0) n) by blk_ext [e, rowOf]]
  show _ = least (rowWeight m c b (rowOf (grid0.coords t 0) n))
  rw [← rowWeight_block]
  exact out0_8_apply _ _ _ _ _ _ b n

/-- The array of new states, as one row. -/
theorem states_eq : (dats m 0 c).arrAt 9 cfg0.N = fun i : S1x262144.Idx => rowState m c (i 1) := by
  refine (dats m 0 c).arrAt_eq_of_covers 9 _ ((cfg0.win 9).covers_of_indexMap_surj rfl (by decide) fun β =>
    ⟨groupAt (β 1), fun a => (columns_at (β 1) (β 0) (β 0).isLt a).trans (by fin_cases a <;> rfl)⟩) fun t hf y => ?_
  blk_simp
  rw [after0_9]
  have e : win0_9.index t = _ := columns_index t
  obtain ⟨n, rfl⟩ : ∃ n, y = ix2 0 n :=
    ⟨y 1, (eq_ix2 y).trans (congrArg (fun k => ix2 k (y 1)) (Fin.ext (Nat.lt_one_iff.1 (y 0).isLt)))⟩
  rw [show (win0_9.blk t).view.emb (ix2 0 n) = ix2 0 (rowOf (grid0.coords t 0) n) by blk_ext [e, rowOf]]
  show _ = rowState m c (rowOf (grid0.coords t 0) n)
  rw [← rowState_block]
  exact out0_9_apply _ _ _ _ _ _ n

end Cert.KernelIdeal.Arrays
-- ==== Proof.Reference.lean ====
/-
  What the reference computes, element by element, in the scalar mathematics of `Spec`.
-/
module

public import proofs.«01_k».proof.Proof.Gen.ReferenceIdeal.Run
public import proofs.«01_k».proof.Proof.Spec
public import Idealize.ShloMosaic.Lib.Tactic.CleanTypes

@[expose] public section

set_option maxRecDepth 16384

noncomputable section

namespace Cert.ReferenceIdeal.Rows

open Cert.ReferenceIdeal Cert.ReferenceIdeal.Gen Idealize.ShloMosaic Idealize.ShloMosaic.TcCoe Cert.RowUpdate

/-! ## The reference's operations on any rows: gradients `G`, codes `Q`, scales `S`, biases `Z`, states `M`, random words `R` -/

variable (G : FVec Ideal S262144x256 .f32) (Q : IVec S262144x256 8) (S Z : FVec Ideal S262144x8 .f32)
  (M : FVec Ideal S262144 .f32) (R : IVec S262144x256 32)

/-- The new states. -/
def states : FVec Ideal S262144 .f32 :=
  addf M (Host.divf (Host.reduceAdd (mulf G G) (constant S_ .f32 0x00000000#32) reducesTo_S262144x256_S262144_d1 h_S_)
    (broadcastInDim S262144 ![] bcast_S_S262144 (constant S_ .f32 0x43800000#32)))

/-- A value per block, at every element of the block. -/
def spread (X : FVec Ideal S262144x8 .f32) : FVec Ideal S262144x8x32 .f32 :=
  broadcastInDim S262144x8x32 ![0, 1, 2] bcast_S262144x8x1_S262144x8x32_0_1_2
    (broadcastInDim S262144x8x1 ![0, 1] bcast_S262144x8_S262144x8x1_0_1 X)

/-- The new weights. -/
def weights : FVec Ideal S262144x8x32 .f32 :=
  subf (addf (mulf (sitofp .f32 (extui 32 (shapeCast _ Q shapeCasts_S262144x256_S262144x8x32) natLt_8_32)) (spread S))
      (spread Z))
    (mulf (broadcastInDim S262144x8x32 ![0, 1, 2] bcast_S262144x1x1_S262144x8x32_0_1_2
        (broadcastInDim S262144x1x1 ![0] bcast_S262144_S262144x1x1_0
          (Host.divf (broadcastInDim S262144 ![] bcast_S_S262144 (constant S_ .f32 0x3CA3D70A#32))
            (addf (Host.sqrt (states G M)) (broadcastInDim S262144 ![] bcast_S_S262144 (constant S_ .f32 0x322BCC77#32))))))
      (shapeCast _ G shapeCasts_S262144x256_S262144x8x32))

variable (W : FVec Ideal S262144x8x32 .f32)

/-- The blocks' least weights. -/
def leasts : FVec Ideal S262144x8 .f32 :=
  Host.reduce FloatOps.minimumf W (constant S_ .f32 0x7F800000#32) reducesTo_S262144x8x32_S262144x8_d2 h_S_

/-- The blocks' greatest weights. -/
def greatests : FVec Ideal S262144x8 .f32 :=
  Host.reduce FloatOps.maximumf W (constant S_ .f32 0xFF800000#32) reducesTo_S262144x8x32_S262144x8_d2 h_S_

/-- The blocks' ranges. -/
def ranges : FVec Ideal S262144x8 .f32 := subf (greatests W) (leasts W)

/-- The blocks' new scales. -/
def scales : FVec Ideal S262144x8 .f32 :=
  Host.divf (ranges W) (broadcastInDim S262144x8 ![] bcast_S_S262144x8 (constant S_ .f32 0x437F0000#32))

variable (L D : FVec Ideal S262144x8 .f32)

/-- The new codes, from the blocks' weights `W`, least weights `L` and ranges `D`. -/
def codes : IVec S262144x256 8 :=
  shapeCast _ (trunci 8 (fptosi 32 (minimumf
    (broadcastInDim S262144x8x32 ![] bcast_S_S262144x8x32 (id (constant S_ .f32 0x437F0000#32)))
    (maximumf (broadcastInDim S262144x8x32 ![] bcast_S_S262144x8x32 (id (constant S_ .f32 0x00000000#32)))
      (Host.floor (addf (mulf (subf W (spread L))
        (spread (Host.divf (broadcastInDim S262144x8 ![] bcast_S_S262144x8 (constant S_ .f32 0x437F0000#32))
          (addf D (broadcastInDim S262144x8 ![] bcast_S_S262144x8 (constant S_ .f32 0x322BCC77#32))))))
        (mulf (uitofp .f32 (Host.shrui (shapeCast _ R shapeCasts_S262144x256_S262144x8x32)
            (broadcastInDim S262144x8x32 ![] bcast_S_S262144x8x32 (constantI S_ 32 8#32))))
          (broadcastInDim S262144x8x32 ![] bcast_S_S262144x8x32 (constant S_ .f32 0x33800000#32)))))))) natLt_8_32)
    shapeCasts_S262144x8x32_S262144x256

/-! ## Their values at an element -/

/-- A lane of a row laid out as 8 blocks of 32. -/
theorem lane_eq (b : Fin 8) (j : Fin 32) : lane b j = ⟨b * 32 + j, by omega⟩ := Fin.ext (by simp [lane]; omega)

/-- The new state of a row. -/
theorem states_apply (N : Fin 262144) :
    states G M (ix1 N) = state (M (ix1 N)) fun k => G (ix2 N k) := by
  pointwise [states, state]
  rw [div_256]

/-- The new weight of a block's element. -/
theorem weights_apply (N : Fin 262144) (b : Fin 8) (j : Fin 32) :
    weights G Q S Z M (ix3 N b j) = weight (Q (ix2 N (lane b j))) (S (ix2 N b)) (Z (ix2 N b))
      (step (state (M (ix1 N)) fun k => G (ix2 N k))) (G (ix2 N (lane b j))) := by
  rw [← states_apply, lane_eq]
  pointwise [weights, spread, weight, step, sitofp_code]

/-- A block's least weight. -/
theorem leasts_apply (N : Fin 262144) (b : Fin 8) : leasts W (ix2 N b) = least fun j => W (ix3 N b j) := by
  pointwise [leasts, least]

/-- A block's greatest weight. -/
theorem greatests_apply (N : Fin 262144) (b : Fin 8) : greatests W (ix2 N b) = greatest fun j => W (ix3 N b j) := by
  pointwise [greatests, greatest]

/-- A difference of two vectors. -/
theorem difference_apply (i : S262144x8.Idx) : subf D L i = (D i - L i : EReal) := rfl

/-- A block's range. -/
theorem ranges_apply (N : Fin 262144) (b : Fin 8) : ranges W (ix2 N b) = range fun j => W (ix3 N b j) := by
  rw [range, ← greatests_apply, ← leasts_apply, ranges, difference_apply]

/-- A vector over 255. -/
theorem quotient_apply (N : Fin 262144) (b : Fin 8) :
    Host.divf D (broadcastInDim S262144x8 ![] bcast_S_S262144x8 (constant S_ .f32 0x437F0000#32)) (ix2 N b)
      = Ideal.div (D (ix2 N b)) (Ideal.ofBits .f32 0x437F0000#32) := by
  pointwise

/-- A block's new scale. -/
theorem scales_apply (N : Fin 262144) (b : Fin 8) : scales W (ix2 N b) = scale fun j => W (ix3 N b j) := by
  rw [scale, ← ranges_apply, scales, quotient_apply]

/-- The new code of a block's element, from the block's least weight and range. -/
theorem codes_of (N : Fin 262144) (b : Fin 8) (j : Fin 32) :
    codes R W L D (ix2 N (lane b j)) = BitVec.setWidth 8 (FloatOps.fptosi (F := Ideal) (φ := .f32) 32
      (min (Ideal.ofBits .f32 0x437F0000#32) (max 0 (Ideal.liftRound Int.floor
        ((W (ix3 N b j) - L (ix2 N b)) * Ideal.div (Ideal.ofBits .f32 0x437F0000#32)
          (D (ix2 N b) + Ideal.ofBits .f32 0x322BCC77#32) + fraction (R (ix2 N (lane b j)))))))) := by
  rw [lane_eq]
  pointwise [codes, spread, fraction, uitofp_shift, id_eq]

/-- The new code of a block's element. -/
theorem codes_apply (N : Fin 262144) (b : Fin 8) (j : Fin 32) :
    codes R W (leasts W) (ranges W) (ix2 N (lane b j))
      = code (fun j => W (ix3 N b j)) j (fraction (R (ix2 N (lane b j)))) := by
  rw [codes_of, leasts_apply, ranges_apply, code, place]

/-! ## The rows the programs work on, from their arguments -/

/-- The rows' places in the table: a negative place counts from the table's end. -/
def places (a4 : IVec S262144 32) : IVec S262144x1 32 :=
  broadcastInDim S262144x1 ![0] bcast_S262144_S262144x1_0
    (select (cmpi .slt a4 (broadcastInDim S262144 ![] bcast_S_S262144 (constantI S_ 32 0#32)))
      (addi a4 (broadcastInDim S262144 ![] bcast_S_S262144 (constantI S_ 32 1500000#32))) a4)

/-- The rows' gradients: the bags' gradients, added up at the rows the bags hold. -/
def gradients (a5 : IVec S8192x128 32) (a6 : FVec Ideal S8192x256 .f32) : FVec Ideal S262144x256 .f32 :=
  Host.scatterAdd scatter_S262144x256_S1048576x1_S1048576x256_1_0_0_1
    (broadcastInDim S262144x256 ![] bcast_S_S262144x256 (constant S_ .f32 0x00000000#32))
    (broadcastInDim S1048576x1 ![0] bcast_S1048576_S1048576x1_0 (shapeCast _ a5 shapeCasts_S8192x128_S1048576))
    (shapeCast _ (broadcastInDim S8192x128x256 ![0, 1, 2] bcast_S8192x1x256_S8192x128x256_0_1_2
      (broadcastInDim S8192x1x256 ![0, 2] bcast_S8192x256_S8192x1x256_0_2 a6)) shapeCasts_S8192x128x256_S1048576x256)

/-- The rows' codes. -/
def oldCodes (a0 : IVec S1500000x256 8) (a4 : IVec S262144 32) : IVec S262144x256 8 :=
  Host.gather gather_S1500000x256_S262144x1_S262144x256_1_0_n_n_0_1_1256 a0 (places a4)

/-- The rows' scales, or their biases. -/
def oldScales (a1 : FVec Ideal S1500000x8 .f32) (a4 : IVec S262144 32) : FVec Ideal S262144x8 .f32 :=
  Host.gather gather_S1500000x8_S262144x1_S262144x8_1_0_n_n_0_1_18 a1 (places a4)

/-- The rows' states. -/
def oldStates (a3 : FVec Ideal S1500000 .f32) (a4 : IVec S262144 32) : FVec Ideal S262144 .f32 :=
  Host.gather gather_S1500000_S262144x1_S262144_n_0_n_n_0_1_1 a3 (places a4)

/-- The rows' new weights. -/
def newWeights (a0 : IVec S1500000x256 8) (a1 a2 : FVec Ideal S1500000x8 .f32) (a3 : FVec Ideal S1500000 .f32)
    (a4 : IVec S262144 32) (a5 : IVec S8192x128 32) (a6 : FVec Ideal S8192x256 .f32) : FVec Ideal S262144x8x32 .f32 :=
  weights (gradients a5 a6) (oldCodes a0 a4) (oldScales a1 a4) (oldScales a2 a4) (oldStates a3 a4)

/-! ## The results, from the arguments -/

variable (m : (ℓ : Loc nD τ sig) → Buf (Elt Ideal) ℓ) (c : Dev nD)

/-- The new weights at the launch's arguments. -/
def weightsAt : FVec Ideal S262144x8x32 .f32 :=
  newWeights (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-- The third result: the blocks' least new weights. -/
theorem biases_eq : Value.res_main_v60 m c = leasts (weightsAt m c) := by
  unfold Value.res_main_v60 weightsAt newWeights leasts weights states spread oldCodes oldScales oldStates gradients places
  rfl

/-- The second result: the blocks' new scales. -/
theorem scales_eq : Value.res_main_v64 m c = scales (weightsAt m c) := by
  unfold Value.res_main_v64 weightsAt newWeights scales ranges greatests leasts weights states spread oldCodes oldScales
    oldStates gradients places
  rfl

/-- The first result: the new codes. -/
theorem codes_eq : Value.res_main_v85 m c = codes (m ((c.tc : Thread nD τ).loc main_arg7)) (weightsAt m c)
    (leasts (weightsAt m c)) (ranges (weightsAt m c)) := by
  unfold Value.res_main_v85 weightsAt newWeights codes ranges greatests leasts weights states spread oldCodes oldScales
    oldStates gradients places
  rfl

/-- The new states at the reference's arguments. -/
def statesAt : FVec Ideal S262144 .f32 :=
  states (gradients (m ((c.tc : Thread nD τ).loc main_arg5)) (m ((c.tc : Thread nD τ).loc main_arg6)))
    (oldStates (m ((c.tc : Thread nD τ).loc main_arg3)) (m ((c.tc : Thread nD τ).loc main_arg4)))

/-- The reference's run: its four results in the terms above, its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v85) = codes (m ((c.tc : Thread nD τ).loc main_arg7)) (weightsAt m c)
        (leasts (weightsAt m c)) (ranges (weightsAt m c))
      ∧ r.2.mem ((c.tc : Thread nD τ).loc main_v64) = scales (weightsAt m c)
      ∧ r.2.mem ((c.tc : Thread nD τ).loc main_v60) = leasts (weightsAt m c)
      ∧ r.2.mem ((c.tc : Thread nD τ).loc main_v48) = statesAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (codes_eq m c), (h c).2.1.trans (scales_eq m c),
      (h c).2.2.1.trans (biases_eq m c),
      (h c).2.2.2.1.trans (by unfold statesAt states oldStates gradients places; rfl), (h c).2.2.2.2⟩)
    (Value.run m ρ)

end Cert.ReferenceIdeal.Rows
-- ==== Proof.Entry.lean ====
/-
  The arrays the kernel's pipeline finds at its entry: the rows the reference works on, laid out for the pipeline.
-/
module

public import proofs.«01_k».proof.Proof.Arrays
public import proofs.«01_k».proof.Proof.Reference
public import Idealize.ShloMosaic.Lib.Claim

@[expose] public section

set_option maxRecDepth 16384

noncomputable section

namespace Cert.KernelIdeal.Entry

open Cert.KernelIdeal Cert.KernelIdeal.Gen Idealize.ShloMosaic Cert.ReferenceIdeal.Rows

variable (m : (ℓ : Loc nD τ sig) → Buf (Elt Ideal) ℓ) (c : Dev nD)

/-- The gradients. -/
theorem gradients_entry : V m c main_v6
    = gradients (m ((c.tc : Thread nD τ).loc main_arg5)) (m ((c.tc : Thread nD τ).loc main_arg6)) := by
  entry_read
  unfold gradients
  rfl

/-- The codes. -/
theorem codes_entry : V m c main_v13
    = oldCodes (m ((c.tc : Thread nD τ).loc main_arg0)) (m ((c.tc : Thread nD τ).loc main_arg4)) := by
  entry_read
  unfold oldCodes places
  rfl

/-- The scales, transposed. -/
theorem scales_entry : V m c main_v21 = transpose S8x262144 [1, 0]
    (oldScales (m ((c.tc : Thread nD τ).loc main_arg1)) (m ((c.tc : Thread nD τ).loc main_arg4)))
    transposes_S262144x8_S8x262144_1_0 := by
  entry_read
  unfold oldScales places
  rfl

/-- The biases, transposed. -/
theorem biases_entry : V m c main_v29 = transpose S8x262144 [1, 0]
    (oldScales (m ((c.tc : Thread nD τ).loc main_arg2)) (m ((c.tc : Thread nD τ).loc main_arg4)))
    transposes_S262144x8_S8x262144_1_0 := by
  entry_read
  unfold oldScales places
  rfl

/-- The states, as one row. -/
theorem states_entry : V m c main_v37 = shapeCast S1x262144
    (oldStates (m ((c.tc : Thread nD τ).loc main_arg3)) (m ((c.tc : Thread nD τ).loc main_arg4)))
    shapeCasts_S262144_S1x262144 := by
  entry_read
  unfold oldStates places
  rfl

end Cert.KernelIdeal.Entry
-- ==== Proof.Equation.lean ====
/-
  The kernel's results are the reference's: its run, with every result array at the reference's operations of the
  launch's arguments.
-/
module

public import proofs.«01_k».proof.Proof.Entry

@[expose] public section

set_option maxRecDepth 16384

noncomputable section

namespace Cert.KernelIdeal.Equation

open Cert.KernelIdeal Cert.KernelIdeal.Gen Idealize.ShloMosaic Idealize.ShloMosaic.Pipeline Idealize.SL.Sem
  Cert.ReferenceIdeal.Rows Cert.RowUpdate

variable (m : (ℓ : Loc nD τ sig) → Buf (Elt Ideal) ℓ) (c : Dev nD)

/-- The reference's new weights at the kernel's arguments. -/
def weightsAt : FVec Ideal Cert.ReferenceIdeal.S262144x8x32 .f32 :=
  newWeights (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-- The reference's new states at the kernel's arguments. -/
def statesAt : FVec Ideal Cert.ReferenceIdeal.S262144 .f32 :=
  states (gradients (m ((c.tc : Thread nD τ).loc main_arg5)) (m ((c.tc : Thread nD τ).loc main_arg6)))
    (oldStates (m ((c.tc : Thread nD τ).loc main_arg3)) (m ((c.tc : Thread nD τ).loc main_arg4)))

/-- A transposed array of rows, read. -/
theorem transposed_apply (X : FVec Ideal S262144x8 .f32) (b : Fin 8) (N : Fin 262144) :
    transpose S8x262144 [1, 0] X transposes_S262144x8_S8x262144_1_0 (ix2 b N) = X (ix2 N b) := by
  pointwise

/-- An array of rows laid out as one row, read. -/
theorem as_row_apply (X : FVec Ideal S262144 .f32) (N : Fin 262144) :
    shapeCast S1x262144 X shapeCasts_S262144_S1x262144 (ix2 0 N) = X (ix1 N) := by
  pointwise

/-- An array with a row of the table as a column, transposed and read. -/
theorem transposed_back_apply (X : FVec Ideal S8x262144 .f32) (b : Fin 8) (N : Fin 262144) :
    transpose S262144x8 [1, 0] X transposes_S8x262144_S262144x8_1_0 (ix2 N b) = X (ix2 b N) := by
  pointwise

/-- One row, laid out as an array of rows and read. -/
theorem from_row_apply (X : FVec Ideal S1x262144 .f32) (N : Fin 262144) :
    shapeCast S262144 X shapeCasts_S1x262144_S262144 (ix1 N) = X (ix2 0 N) := by
  pointwise

/-- The kernel's new state of a row is the reference's. -/
theorem rowState_eq (N : Fin 262144) : Arrays.rowState m c N = statesAt m c (ix1 N) := by
  rw [Arrays.rowState, Entry.states_entry, Entry.gradients_entry, as_row_apply, statesAt, states_apply]

/-- The kernel's new weights of a block are the reference's. -/
theorem rowWeight_eq (b : Fin 8) (N : Fin 262144) :
    Arrays.rowWeight m c b N = fun j => weightsAt m c (ix3 N b j) := by
  funext j
  rw [Arrays.rowWeight, rowState_eq, Entry.codes_entry, Entry.scales_entry, Entry.biases_entry, Entry.gradients_entry,
    transposed_apply, transposed_apply, weightsAt, newWeights, weights_apply, statesAt, states_apply]

/-! ## The four results -/

/-- The new codes. -/
theorem codes_eq : (dats m 0 c).arrAt 6 cfg0.N = codes (m ((c.tc : Thread nD τ).loc main_arg7)) (weightsAt m c)
    (leasts (weightsAt m c)) (ranges (weightsAt m c)) := by
  rw [Arrays.codes_eq]
  funext i
  obtain ⟨N, l, rfl⟩ : ∃ N l, i = ix2 N l := ⟨i 0, i 1, eq_ix2 i⟩
  have h := codes_apply (m ((c.tc : Thread nD τ).loc main_arg7)) (weightsAt m c) N (Arrays.blockOf l) (Arrays.placeOf l)
  rw [Arrays.lane_of] at h
  rw [h, V_main_arg7, ← rowWeight_eq]
  rfl

/-- The new scales. -/
theorem scales_eq : transpose S262144x8 [1, 0] ((dats m 0 c).arrAt 7 cfg0.N) transposes_S8x262144_S262144x8_1_0
    = scales (weightsAt m c) := by
  rw [Arrays.scales_eq]
  funext i
  obtain ⟨N, b, rfl⟩ : ∃ N b, i = ix2 N b := ⟨i 0, i 1, eq_ix2 i⟩
  rw [scales_apply, ← rowWeight_eq, transposed_back_apply]
  rfl

/-- The new biases. -/
theorem biases_eq : transpose S262144x8 [1, 0] ((dats m 0 c).arrAt 8 cfg0.N) transposes_S8x262144_S262144x8_1_0
    = leasts (weightsAt m c) := by
  rw [Arrays.biases_eq]
  funext i
  obtain ⟨N, b, rfl⟩ : ∃ N b, i = ix2 N b := ⟨i 0, i 1, eq_ix2 i⟩
  rw [leasts_apply, ← rowWeight_eq, transposed_back_apply]
  rfl

/-- The new states. -/
theorem states_eq : shapeCast S262144 ((dats m 0 c).arrAt 9 cfg0.N) shapeCasts_S1x262144_S262144 = statesAt m c := by
  rw [Arrays.states_eq]
  funext i
  obtain ⟨N, rfl⟩ : ∃ N, i = ix1 N := ⟨i 0, eq_ix1 i⟩
  rw [← rowState_eq, from_row_apply]
  rfl

/-! ## The host lines after the pipeline -/

/-- A window's array as those lines find it. -/
theorem array_at (w : Fin cfg0.W) :
    withArrays spec0 c (V0 m c) (fun w => (dats m 0 c).arrAt w cfg0.N) (Proc.devRef .tc (arrRef spec0 w))
      = (dats m 0 c).arrAt w cfg0.N :=
  withArrays_arr spec0 launch0.win.arr_inj c (V0 m c) (fun w => (dats m 0 c).arrAt w cfg0.N) w

/-- The lines transpose the scales and the biases back and lay the states out as an array of rows. -/
theorem lines (σ : Valuation τ sig (Elt Ideal)) :
    StableHlo.after hostOps1 σ (Proc.devRef .tc main_v39)
        = transpose S262144x8 [1, 0] (σ (Proc.devRef .tc main_v38_1)) transposes_S8x262144_S262144x8_1_0
      ∧ StableHlo.after hostOps1 σ (Proc.devRef .tc main_v40)
        = transpose S262144x8 [1, 0] (σ (Proc.devRef .tc main_v38_2)) transposes_S8x262144_S262144x8_1_0
      ∧ StableHlo.after hostOps1 σ (Proc.devRef .tc main_v41)
        = shapeCast S262144 (σ (Proc.devRef .tc main_v38_3)) shapeCasts_S1x262144_S262144 := by
  refine ⟨?_, ?_, ?_⟩ <;> after_results <;> rfl

/-- The returned scales. -/
theorem tail_scales : afterTail₀ cfgs (dats m) 0 (V0 m) [hostOps1] c main_v39 = scales (weightsAt m c) := by
  refine ((lines _).1.trans ?_).trans (scales_eq m c)
  exact congrArg (transpose S262144x8 [1, 0] · transposes_S8x262144_S262144x8_1_0) (array_at m c 7)

/-- The returned biases. -/
theorem tail_biases : afterTail₀ cfgs (dats m) 0 (V0 m) [hostOps1] c main_v40 = leasts (weightsAt m c) := by
  refine ((lines _).2.1.trans ?_).trans (biases_eq m c)
  exact congrArg (transpose S262144x8 [1, 0] · transposes_S8x262144_S262144x8_1_0) (array_at m c 8)

/-- The returned states. -/
theorem tail_states : afterTail₀ cfgs (dats m) 0 (V0 m) [hostOps1] c main_v41 = statesAt m c := by
  refine ((lines _).2.2.trans ?_).trans (states_eq m c)
  exact congrArg (shapeCast S262144 · shapeCasts_S1x262144_S262144) (array_at m c 9)

/-- The kernel's run: the four results at the reference's operations of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v38_0) = codes (m ((c.tc : Thread nD τ).loc main_arg7)) (weightsAt m c)
        (leasts (weightsAt m c)) (ranges (weightsAt m c))
      ∧ r.2.mem ((c.tc : Thread nD τ).loc main_v39) = scales (weightsAt m c)
      ∧ r.2.mem ((c.tc : Thread nD τ).loc main_v40) = leasts (weightsAt m c)
      ∧ r.2.mem ((c.tc : Thread nD τ).loc main_v41) = statesAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).1 6).trans (codes_eq m c),
      ((h.1 c).2 main_v39 (mem_restRefs_of main_v39 (by decide) (by decide))).trans (tail_scales m c),
      ((h.1 c).2 main_v40 (mem_restRefs_of main_v40 (by decide) (by decide))).trans (tail_biases m c),
      ((h.1 c).2 main_v41 (mem_restRefs_of main_v41 (by decide) (by decide))).trans (tail_states m c), h.2 c⟩)
    (θ_run_and (run_main m ρ) (unchanged m ρ))

end Cert.KernelIdeal.Equation
-- ==== Proof.lean ====
/-
  The certificate: the three programs leave their arguments unchanged and run to completion, the ideal kernel is the
  kernel with its declared rewrites, and the ideal kernel's four results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The two programs' memories hold the same arguments. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)

/-- The new weights are a function of the arguments: programs agreeing on those agree on them. -/
theorem weights_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : Agree m m') (c : Dev Cert.KernelIdeal.nD) :
    Cert.ReferenceIdeal.Rows.weightsAt m' c = Cert.KernelIdeal.Equation.weightsAt m c := by
  obtain ⟨h0, h1, h2, h3, h4, h5, h6, -⟩ := hagree c
  unfold Cert.ReferenceIdeal.Rows.weightsAt Cert.KernelIdeal.Equation.weightsAt
  rw [h0, h1, h2, h3, h4, h5, h6]

/-- So are the new states. -/
theorem states_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : Agree m m') (c : Dev Cert.KernelIdeal.nD) :
    Cert.ReferenceIdeal.Rows.statesAt m' c = Cert.KernelIdeal.Equation.statesAt m c := by
  obtain ⟨-, -, -, h3, h4, h5, h6, -⟩ := hagree c
  unfold Cert.ReferenceIdeal.Rows.statesAt Cert.KernelIdeal.Equation.statesAt
  rw [h3, h4, h5, h6]

/-- The ideal kernel and the ideal reference return equal codes, scales, biases and states. -/
theorem algebraic : algebraic_KernelIdeal_ReferenceIdeal (hKernelIdeal := Cert.KernelIdeal.Gen.facts)
    (hReferenceIdeal := Cert.ReferenceIdeal.Gen.facts) := by
  intro m g m' g' _ hagree
  refine ⟨_, _, _, _, Cert.KernelIdeal.Equation.run m g,
    (θ_run _ _ _).mono (fun _ h c => ?_) (Cert.ReferenceIdeal.Rows.run m' g')⟩
  obtain ⟨h0, h1, h2, h3, hargs⟩ := h c
  rw [weights_agree m m' hagree c] at h0 h1 h2
  rw [(hagree c).2.2.2.2.2.2.2] at h0
  exact ⟨h0, h1, h2, h3.trans (states_agree m m' hagree c), hargs⟩

/-- The reference leaves its arguments unchanged and ends with every semaphore at zero. -/
theorem reference_frame : quiescent_ReferenceIdeal (hReferenceIdeal := Cert.ReferenceIdeal.Gen.facts) := by
  intro m g _
  exact (θ_run Cert.ReferenceIdeal.defs _ _).mono
    (fun r h => ⟨fun c => (h c).2.2.2.2, sem_eq_zero_of_no_sems (by decide) r.2⟩) (Cert.ReferenceIdeal.Rows.run m g)

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, algebraic⟩

end Cert.Proof

end
